-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_table_of_paths [hPre_table_of_paths : Cert.Pre_table_of_paths.Facts] (m : (ℓ : Loc Cert.KernelIdeal.nD Cert.KernelIdeal.τ Cert.KernelIdeal.sig) → Buf (Elt Ideal) ℓ) : Prop :=
  ∀ c : Dev Cert.KernelIdeal.nD,
    (Cert.Pre_table_of_paths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_table_of_paths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_table_of_paths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_of_paths [hPre_table_of_paths : Cert.Pre_table_of_paths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_of_paths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_table_of_paths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_table_of_paths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_table_of_paths [hKernelIdeal : Cert.KernelIdeal.Facts] [hPre_table_of_paths : Cert.Pre_table_of_paths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_of_paths m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_table_of_paths [hReferenceIdeal : Cert.ReferenceIdeal.Facts] [hPre_table_of_paths : Cert.Pre_table_of_paths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_of_paths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_table_of_paths [hKernelIdeal : Cert.KernelIdeal.Facts] [hReferenceIdeal : Cert.ReferenceIdeal.Facts] [hPre_table_of_paths : Cert.Pre_table_of_paths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_of_paths m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_table_of_paths : Cert.Pre_table_of_paths.Facts),
    quiescent_Kernel (hKernel := hKernel)
    ∧ quiescent_KernelIdeal (hKernelIdeal := hKernelIdeal)
    ∧ quiescent_KernelIdeal_pre_table_of_paths (hKernelIdeal := hKernelIdeal) (hPre_table_of_paths := hPre_table_of_paths)
    ∧ quiescent_ReferenceIdeal (hReferenceIdeal := hReferenceIdeal)
    ∧ quiescent_ReferenceIdeal_pre_table_of_paths (hReferenceIdeal := hReferenceIdeal) (hPre_table_of_paths := hPre_table_of_paths)
    ∧ preserves_Kernel_KernelIdeal
    ∧ algebraic_KernelIdeal_ReferenceIdeal_pre_table_of_paths (hKernelIdeal := hKernelIdeal) (hReferenceIdeal := hReferenceIdeal) (hPre_table_of_paths := hPre_table_of_paths)
-- ==== Pre_table_of_paths.lean ====
abbrev S1024x50 : Shape := ⟨2, ![1024, 50]⟩
abbrev S32 : Shape := ⟨1, ![32]⟩
abbrev S1048576x20 : Shape := ⟨2, ![1048576, 20]⟩
abbrev S_ : Shape := ⟨0, ![]⟩

class Facts : Prop where
  bcast_S_S1048576x20 : S_.BroadcastsInDim S1048576x20 (![] : Fin 0 → Fin S1048576x20.rank)
  bcast_S_S1024x50 : S_.BroadcastsInDim S1024x50 (![] : Fin 0 → Fin S1024x50.rank)

variable [Facts]

def fn_part11 {F : FTy → Type} [FloatOps F] (main_arg0 : IVec S1024x50 32) (main_arg2 : FVec F S1048576x20 .f32) (main_v176 : FVec F S1048576x20 .f32) : IVec S1024x50 1 × IVec S1024x50 1 × IVec S1048576x20 1 :=
  let main_c_79 : IVec S_ 32 := constantI S_ 32 2147483648#32
  let main_v183 : IVec S1024x50 32 := broadcastInDim S1024x50 ![] bcast_S_S1024x50 main_c_79
  let main_v184 : IVec S1024x50 1 := cmpi .sgt main_arg0 main_v183
  let main_c_80 : IVec S_ 32 := constantI S_ 32 1048576#32
  let main_v185 : IVec S1024x50 32 := broadcastInDim S1024x50 ![] bcast_S_S1024x50 main_c_80
  let main_v186 : IVec S1024x50 1 := cmpi .sle main_arg0 main_v185
  let main_v187 : IVec S1048576x20 1 := cmpf .oeq main_arg2 main_v176
  (main_v184, main_v186, main_v187)

def fn_part10 {F : FTy → Type} [FloatOps F] (main_arg0 : IVec S1024x50 32) (main_arg2 : FVec F S1048576x20 .f32) (main_v1 : IVec S1048576x20 32) (main_v158 : FVec F S1048576x20 .f32) (main_v164 : IVec S1048576x20 32) (main_v165 : IVec S1048576x20 32) : IVec S1024x50 1 × IVec S1024x50 1 × IVec S1048576x20 1 :=
  let main_v166 : IVec S1048576x20 1 := cmpi .sge main_v164 main_v165
  let main_c_72 : IVec S_ 32 := constantI S_ 32 1#32
  let main_v167 : IVec S1048576x20 32 := broadcastInDim S1048576x20 ![] bcast_S_S1048576x20 main_c_72
  let main_v168 : IVec S1048576x20 32 := subi main_v164 main_v167
  let main_c_73 : IVec S_ 32 := constantI S_ 32 2#32
  let main_v169 : IVec S1048576x20 32 := broadcastInDim S1048576x20 ![] bcast_S_S1048576x20 main_c_73
  let main_v170 : IVec S1048576x20 32 := Host.remsi main_v168 main_v169
  let main_c_74 : IVec S_ 32 := constantI S_ 32 18#32
  let main_v171 : IVec S1048576x20 32 := broadcastInDim S1048576x20 ![] bcast_S_S1048576x20 main_c_74
  let main_v172 : IVec S1048576x20 32 := addi main_v171 main_v170
  let main_v173 : IVec S1048576x20 1 := cmpi .eq main_v1 main_v172
  let main_v174 : IVec S1048576x20 1 := andi main_v166 main_v173
  let main_cst_75 : FVec F S_ .f32 := constant S_ .f32 0x3F800000#32
  let main_v175 : FVec F S1048576x20 .f32 := broadcastInDim S1048576x20 ![] bcast_S_S1048576x20 main_cst_75
  let main_v176 : FVec F S1048576x20 .f32 := select main_v174 main_v175 main_v158
  let main_c_76 : IVec S_ 32 := constantI S_ 32 1#32
  let main_v177 : IVec S1048576x20 32 := broadcastInDim S1048576x20 ![] bcast_S_S1048576x20 main_c_76
  let main_v178 : IVec S1048576x20 32 := subi main_v164 main_v177
  let main_c_77 : IVec S_ 32 := constantI S_ 32 2#32
  let main_v179 : IVec S1048576x20 32 := broadcastInDim S1048576x20 ![] bcast_S_S1048576x20 main_c_77
  let main_v180 : IVec S1048576x20 32 := Host.divsi main_v178 main_v179
  let main_c_78 : IVec S_ 32 := constantI S_ 32 0#32
  let main_v181 : IVec S1048576x20 32 := broadcastInDim S1048576x20 ![] bcast_S_S1048576x20 main_c_78
  let main_v182 : IVec S1048576x20 32 := select main_v166 main_v180 main_v181
  fn_part11 (F := F) main_arg0 main_arg2 main_v176

def fn_part9 {F : FTy → Type} [FloatOps F] (main_arg0 : IVec S1024x50 32) (main_arg2 : FVec F S1048576x20 .f32) (main_v1 : IVec S1048576x20 32) (main_v140 : FVec F S1048576x20 .f32) (main_v146 : IVec S1048576x20 32) (main_v148 : IVec S1048576x20 1) (main_c_64 : IVec S_ 32) : IVec S1024x50 1 × IVec S1024x50 1 × IVec S1048576x20 1 :=
  let main_v149 : IVec S1048576x20 32 := broadcastInDim S1048576x20 ![] bcast_S_S1048576x20 main_c_64
  let main_v150 : IVec S1048576x20 32 := subi main_v146 main_v149
  let main_c_65 : IVec S_ 32 := constantI S_ 32 2#32
  let main_v151 : IVec S1048576x20 32 := broadcastInDim S1048576x20 ![] bcast_S_S1048576x20 main_c_65
  let main_v152 : IVec S1048576x20 32 := Host.remsi main_v150 main_v151
  let main_c_66 : IVec S_ 32 := constantI S_ 32 16#32
  let main_v153 : IVec S1048576x20 32 := broadcastInDim S1048576x20 ![] bcast_S_S1048576x20 main_c_66
  let main_v154 : IVec S1048576x20 32 := addi main_v153 main_v152
  let main_v155 : IVec S1048576x20 1 := cmpi .eq main_v1 main_v154
  let main_v156 : IVec S1048576x20 1 := andi main_v148 main_v155
  let main_cst_67 : FVec F S_ .f32 := constant S_ .f32 0x3F800000#32
  let main_v157 : FVec F S1048576x20 .f32 := broadcastInDim S1048576x20 ![] bcast_S_S1048576x20 main_cst_67
  let main_v158 : FVec F S1048576x20 .f32 := select main_v156 main_v157 main_v140
  let main_c_68 : IVec S_ 32 := constantI S_ 32 1#32
  let main_v159 : IVec S1048576x20 32 := broadcastInDim S1048576x20 ![] bcast_S_S1048576x20 main_c_68
  let main_v160 : IVec S1048576x20 32 := subi main_v146 main_v159
  let main_c_69 : IVec S_ 32 := constantI S_ 32 2#32
  let main_v161 : IVec S1048576x20 32 := broadcastInDim S1048576x20 ![] bcast_S_S1048576x20 main_c_69
  let main_v162 : IVec S1048576x20 32 := Host.divsi main_v160 main_v161
  let main_c_70 : IVec S_ 32 := constantI S_ 32 0#32
  let main_v163 : IVec S1048576x20 32 := broadcastInDim S1048576x20 ![] bcast_S_S1048576x20 main_c_70
  let main_v164 : IVec S1048576x20 32 := select main_v148 main_v162 main_v163
  let main_c_71 : IVec S_ 32 := constantI S_ 32 1#32
  let main_v165 : IVec S1048576x20 32 := broadcastInDim S1048576x20 ![] bcast_S_S1048576x20 main_c_71
  fn_part10 (F := F) main_arg0 main_arg2 main_v1 main_v158 main_v164 main_v165

def fn_part8 {F : FTy → Type} [FloatOps F] (main_arg0 : IVec S1024x50 32) (main_arg2 : FVec F S1048576x20 .f32) (main_v1 : IVec S1048576x20 32) (main_v122 : FVec F S1048576x20 .f32) (main_v128 : IVec S1048576x20 32) (main_v130 : IVec S1048576x20 1) (main_v132 : IVec S1048576x20 32) : IVec S1024x50 1 × IVec S1024x50 1 × IVec S1048576x20 1 :=
  let main_c_57 : IVec S_ 32 := constantI S_ 32 2#32
  let main_v133 : IVec S1048576x20 32 := broadcastInDim S1048576x20 ![] bcast_S_S1048576x20 main_c_57
  let main_v134 : IVec S1048576x20 32 := Host.remsi main_v132 main_v133
  let main_c_58 : IVec S_ 32 := constantI S_ 32 14#32
  let main_v135 : IVec S1048576x20 32 := broadcastInDim S1048576x20 ![] bcast_S_S1048576x20 main_c_58
  let main_v136 : IVec S1048576x20 32 := addi main_v135 main_v134
  let main_v137 : IVec S1048576x20 1 := cmpi .eq main_v1 main_v136
  let main_v138 : IVec S1048576x20 1 := andi main_v130 main_v137
  let main_cst_59 : FVec F S_ .f32 := constant S_ .f32 0x3F800000#32
  let main_v139 : FVec F S1048576x20 .f32 := broadcastInDim S1048576x20 ![] bcast_S_S1048576x20 main_cst_59
  let main_v140 : FVec F S1048576x20 .f32 := select main_v138 main_v139 main_v122
  let main_c_60 : IVec S_ 32 := constantI S_ 32 1#32
  let main_v141 : IVec S1048576x20 32 := broadcastInDim S1048576x20 ![] bcast_S_S1048576x20 main_c_60
  let main_v142 : IVec S1048576x20 32 := subi main_v128 main_v141
  let main_c_61 : IVec S_ 32 := constantI S_ 32 2#32
  let main_v143 : IVec S1048576x20 32 := broadcastInDim S1048576x20 ![] bcast_S_S1048576x20 main_c_61
  let main_v144 : IVec S1048576x20 32 := Host.divsi main_v142 main_v143
  let main_c_62 : IVec S_ 32 := constantI S_ 32 0#32
  let main_v145 : IVec S1048576x20 32 := broadcastInDim S1048576x20 ![] bcast_S_S1048576x20 main_c_62
  let main_v146 : IVec S1048576x20 32 := select main_v130 main_v144 main_v145
  let main_c_63 : IVec S_ 32 := constantI S_ 32 1#32
  let main_v147 : IVec S1048576x20 32 := broadcastInDim S1048576x20 ![] bcast_S_S1048576x20 main_c_63
  let main_v148 : IVec S1048576x20 1 := cmpi .sge main_v146 main_v147
  let main_c_64 : IVec S_ 32 := constantI S_ 32 1#32
  fn_part9 (F := F) main_arg0 main_arg2 main_v1 main_v140 main_v146 main_v148 main_c_64

def fn_part7 {F : FTy → Type} [FloatOps F] (main_arg0 : IVec S1024x50 32) (main_arg2 : FVec F S1048576x20 .f32) (main_v1 : IVec S1048576x20 32) (main_v104 : FVec F S1048576x20 .f32) (main_v110 : IVec S1048576x20 32) (main_v112 : IVec S1048576x20 1) (main_v114 : IVec S1048576x20 32) (main_v115 : IVec S1048576x20 32) : IVec S1024x50 1 × IVec S1024x50 1 × IVec S1048576x20 1 :=
  let main_v116 : IVec S1048576x20 32 := Host.remsi main_v114 main_v115
  let main_c_50 : IVec S_ 32 := constantI S_ 32 12#32
  let main_v117 : IVec S1048576x20 32 := broadcastInDim S1048576x20 ![] bcast_S_S1048576x20 main_c_50
  let main_v118 : IVec S1048576x20 32 := addi main_v117 main_v116
  let main_v119 : IVec S1048576x20 1 := cmpi .eq main_v1 main_v118
  let main_v120 : IVec S1048576x20 1 := andi main_v112 main_v119
  let main_cst_51 : FVec F S_ .f32 := constant S_ .f32 0x3F800000#32
  let main_v121 : FVec F S1048576x20 .f32 := broadcastInDim S1048576x20 ![] bcast_S_S1048576x20 main_cst_51
  let main_v122 : FVec F S1048576x20 .f32 := select main_v120 main_v121 main_v104
  let main_c_52 : IVec S_ 32 := constantI S_ 32 1#32
  let main_v123 : IVec S1048576x20 32 := broadcastInDim S1048576x20 ![] bcast_S_S1048576x20 main_c_52
  let main_v124 : IVec S1048576x20 32 := subi main_v110 main_v123
  let main_c_53 : IVec S_ 32 := constantI S_ 32 2#32
  let main_v125 : IVec S1048576x20 32 := broadcastInDim S1048576x20 ![] bcast_S_S1048576x20 main_c_53
  let main_v126 : IVec S1048576x20 32 := Host.divsi main_v124 main_v125
  let main_c_54 : IVec S_ 32 := constantI S_ 32 0#32
  let main_v127 : IVec S1048576x20 32 := broadcastInDim S1048576x20 ![] bcast_S_S1048576x20 main_c_54
  let main_v128 : IVec S1048576x20 32 := select main_v112 main_v126 main_v127
  let main_c_55 : IVec S_ 32 := constantI S_ 32 1#32
  let main_v129 : IVec S1048576x20 32 := broadcastInDim S1048576x20 ![] bcast_S_S1048576x20 main_c_55
  let main_v130 : IVec S1048576x20 1 := cmpi .sge main_v128 main_v129
  let main_c_56 : IVec S_ 32 := constantI S_ 32 1#32
  let main_v131 : IVec S1048576x20 32 := broadcastInDim S1048576x20 ![] bcast_S_S1048576x20 main_c_56
  let main_v132 : IVec S1048576x20 32 := subi main_v128 main_v131
  fn_part8 (F := F) main_arg0 main_arg2 main_v1 main_v122 main_v128 main_v130 main_v132

def fn_part6 {F : FTy → Type} [FloatOps F] (main_arg0 : IVec S1024x50 32) (main_arg2 : FVec F S1048576x20 .f32) (main_v1 : IVec S1048576x20 32) (main_v86 : FVec F S1048576x20 .f32) (main_v92 : IVec S1048576x20 32) (main_v94 : IVec S1048576x20 1) (main_v98 : IVec S1048576x20 32) (main_c_42 : IVec S_ 32) : IVec S1024x50 1 × IVec S1024x50 1 × IVec S1048576x20 1 :=
  let main_v99 : IVec S1048576x20 32 := broadcastInDim S1048576x20 ![] bcast_S_S1048576x20 main_c_42
  let main_v100 : IVec S1048576x20 32 := addi main_v99 main_v98
  let main_v101 : IVec S1048576x20 1 := cmpi .eq main_v1 main_v100
  let main_v102 : IVec S1048576x20 1 := andi main_v94 main_v101
  let main_cst_43 : FVec F S_ .f32 := constant S_ .f32 0x3F800000#32
  let main_v103 : FVec F S1048576x20 .f32 := broadcastInDim S1048576x20 ![] bcast_S_S1048576x20 main_cst_43
  let main_v104 : FVec F S1048576x20 .f32 := select main_v102 main_v103 main_v86
  let main_c_44 : IVec S_ 32 := constantI S_ 32 1#32
  let main_v105 : IVec S1048576x20 32 := broadcastInDim S1048576x20 ![] bcast_S_S1048576x20 main_c_44
  let main_v106 : IVec S1048576x20 32 := subi main_v92 main_v105
  let main_c_45 : IVec S_ 32 := constantI S_ 32 2#32
  let main_v107 : IVec S1048576x20 32 := broadcastInDim S1048576x20 ![] bcast_S_S1048576x20 main_c_45
  let main_v108 : IVec S1048576x20 32 := Host.divsi main_v106 main_v107
  let main_c_46 : IVec S_ 32 := constantI S_ 32 0#32
  let main_v109 : IVec S1048576x20 32 := broadcastInDim S1048576x20 ![] bcast_S_S1048576x20 main_c_46
  let main_v110 : IVec S1048576x20 32 := select main_v94 main_v108 main_v109
  let main_c_47 : IVec S_ 32 := constantI S_ 32 1#32
  let main_v111 : IVec S1048576x20 32 := broadcastInDim S1048576x20 ![] bcast_S_S1048576x20 main_c_47
  let main_v112 : IVec S1048576x20 1 := cmpi .sge main_v110 main_v111
  let main_c_48 : IVec S_ 32 := constantI S_ 32 1#32
  let main_v113 : IVec S1048576x20 32 := broadcastInDim S1048576x20 ![] bcast_S_S1048576x20 main_c_48
  let main_v114 : IVec S1048576x20 32 := subi main_v110 main_v113
  let main_c_49 : IVec S_ 32 := constantI S_ 32 2#32
  let main_v115 : IVec S1048576x20 32 := broadcastInDim S1048576x20 ![] bcast_S_S1048576x20 main_c_49
  fn_part7 (F := F) main_arg0 main_arg2 main_v1 main_v104 main_v110 main_v112 main_v114 main_v115

def fn_part5 {F : FTy → Type} [FloatOps F] (main_arg0 : IVec S1024x50 32) (main_arg2 : FVec F S1048576x20 .f32) (main_v1 : IVec S1048576x20 32) (main_v68 : FVec F S1048576x20 .f32) (main_v74 : IVec S1048576x20 32) (main_v76 : IVec S1048576x20 1) (main_v82 : IVec S1048576x20 32) : IVec S1024x50 1 × IVec S1024x50 1 × IVec S1048576x20 1 :=
  let main_v83 : IVec S1048576x20 1 := cmpi .eq main_v1 main_v82
  let main_v84 : IVec S1048576x20 1 := andi main_v76 main_v83
  let main_cst_35 : FVec F S_ .f32 := constant S_ .f32 0x3F800000#32
  let main_v85 : FVec F S1048576x20 .f32 := broadcastInDim S1048576x20 ![] bcast_S_S1048576x20 main_cst_35
  let main_v86 : FVec F S1048576x20 .f32 := select main_v84 main_v85 main_v68
  let main_c_36 : IVec S_ 32 := constantI S_ 32 1#32
  let main_v87 : IVec S1048576x20 32 := broadcastInDim S1048576x20 ![] bcast_S_S1048576x20 main_c_36
  let main_v88 : IVec S1048576x20 32 := subi main_v74 main_v87
  let main_c_37 : IVec S_ 32 := constantI S_ 32 2#32
  let main_v89 : IVec S1048576x20 32 := broadcastInDim S1048576x20 ![] bcast_S_S1048576x20 main_c_37
  let main_v90 : IVec S1048576x20 32 := Host.divsi main_v88 main_v89
  let main_c_38 : IVec S_ 32 := constantI S_ 32 0#32
  let main_v91 : IVec S1048576x20 32 := broadcastInDim S1048576x20 ![] bcast_S_S1048576x20 main_c_38
  let main_v92 : IVec S1048576x20 32 := select main_v76 main_v90 main_v91
  let main_c_39 : IVec S_ 32 := constantI S_ 32 1#32
  let main_v93 : IVec S1048576x20 32 := broadcastInDim S1048576x20 ![] bcast_S_S1048576x20 main_c_39
  let main_v94 : IVec S1048576x20 1 := cmpi .sge main_v92 main_v93
  let main_c_40 : IVec S_ 32 := constantI S_ 32 1#32
  let main_v95 : IVec S1048576x20 32 := broadcastInDim S1048576x20 ![] bcast_S_S1048576x20 main_c_40
  let main_v96 : IVec S1048576x20 32 := subi main_v92 main_v95
  let main_c_41 : IVec S_ 32 := constantI S_ 32 2#32
  let main_v97 : IVec S1048576x20 32 := broadcastInDim S1048576x20 ![] bcast_S_S1048576x20 main_c_41
  let main_v98 : IVec S1048576x20 32 := Host.remsi main_v96 main_v97
  let main_c_42 : IVec S_ 32 := constantI S_ 32 10#32
  fn_part6 (F := F) main_arg0 main_arg2 main_v1 main_v86 main_v92 main_v94 main_v98 main_c_42

def fn_part4 {F : FTy → Type} [FloatOps F] (main_arg0 : IVec S1024x50 32) (main_arg2 : FVec F S1048576x20 .f32) (main_v1 : IVec S1048576x20 32) (main_v50 : FVec F S1048576x20 .f32) (main_v56 : IVec S1048576x20 32) (main_v58 : IVec S1048576x20 1) (main_v66 : IVec S1048576x20 1) : IVec S1024x50 1 × IVec S1024x50 1 × IVec S1048576x20 1 :=
  let main_cst_27 : FVec F S_ .f32 := constant S_ .f32 0x3F800000#32
  let main_v67 : FVec F S1048576x20 .f32 := broadcastInDim S1048576x20 ![] bcast_S_S1048576x20 main_cst_27
  let main_v68 : FVec F S1048576x20 .f32 := select main_v66 main_v67 main_v50
  let main_c_28 : IVec S_ 32 := constantI S_ 32 1#32
  let main_v69 : IVec S1048576x20 32 := broadcastInDim S1048576x20 ![] bcast_S_S1048576x20 main_c_28
  let main_v70 : IVec S1048576x20 32 := subi main_v56 main_v69
  let main_c_29 : IVec S_ 32 := constantI S_ 32 2#32
  let main_v71 : IVec S1048576x20 32 := broadcastInDim S1048576x20 ![] bcast_S_S1048576x20 main_c_29
  let main_v72 : IVec S1048576x20 32 := Host.divsi main_v70 main_v71
  let main_c_30 : IVec S_ 32 := constantI S_ 32 0#32
  let main_v73 : IVec S1048576x20 32 := broadcastInDim S1048576x20 ![] bcast_S_S1048576x20 main_c_30
  let main_v74 : IVec S1048576x20 32 := select main_v58 main_v72 main_v73
  let main_c_31 : IVec S_ 32 := constantI S_ 32 1#32
  let main_v75 : IVec S1048576x20 32 := broadcastInDim S1048576x20 ![] bcast_S_S1048576x20 main_c_31
  let main_v76 : IVec S1048576x20 1 := cmpi .sge main_v74 main_v75
  let main_c_32 : IVec S_ 32 := constantI S_ 32 1#32
  let main_v77 : IVec S1048576x20 32 := broadcastInDim S1048576x20 ![] bcast_S_S1048576x20 main_c_32
  let main_v78 : IVec S1048576x20 32 := subi main_v74 main_v77
  let main_c_33 : IVec S_ 32 := constantI S_ 32 2#32
  let main_v79 : IVec S1048576x20 32 := broadcastInDim S1048576x20 ![] bcast_S_S1048576x20 main_c_33
  let main_v80 : IVec S1048576x20 32 := Host.remsi main_v78 main_v79
  let main_c_34 : IVec S_ 32 := constantI S_ 32 8#32
  let main_v81 : IVec S1048576x20 32 := broadcastInDim S1048576x20 ![] bcast_S_S1048576x20 main_c_34
  let main_v82 : IVec S1048576x20 32 := addi main_v81 main_v80
  fn_part5 (F := F) main_arg0 main_arg2 main_v1 main_v68 main_v74 main_v76 main_v82

def fn_part3 {F : FTy → Type} [FloatOps F] (main_arg0 : IVec S1024x50 32) (main_arg2 : FVec F S1048576x20 .f32) (main_v1 : IVec S1048576x20 32) (main_v32 : FVec F S1048576x20 .f32) (main_v38 : IVec S1048576x20 32) (main_v40 : IVec S1048576x20 1) (main_v48 : IVec S1048576x20 1) (main_v49 : FVec F S1048576x20 .f32) : IVec S1024x50 1 × IVec S1024x50 1 × IVec S1048576x20 1 :=
  let main_v50 : FVec F S1048576x20 .f32 := select main_v48 main_v49 main_v32
  let main_c_20 : IVec S_ 32 := constantI S_ 32 1#32
  let main_v51 : IVec S1048576x20 32 := broadcastInDim S1048576x20 ![] bcast_S_S1048576x20 main_c_20
  let main_v52 : IVec S1048576x20 32 := subi main_v38 main_v51
  let main_c_21 : IVec S_ 32 := constantI S_ 32 2#32
  let main_v53 : IVec S1048576x20 32 := broadcastInDim S1048576x20 ![] bcast_S_S1048576x20 main_c_21
  let main_v54 : IVec S1048576x20 32 := Host.divsi main_v52 main_v53
  let main_c_22 : IVec S_ 32 := constantI S_ 32 0#32
  let main_v55 : IVec S1048576x20 32 := broadcastInDim S1048576x20 ![] bcast_S_S1048576x20 main_c_22
  let main_v56 : IVec S1048576x20 32 := select main_v40 main_v54 main_v55
  let main_c_23 : IVec S_ 32 := constantI S_ 32 1#32
  let main_v57 : IVec S1048576x20 32 := broadcastInDim S1048576x20 ![] bcast_S_S1048576x20 main_c_23
  let main_v58 : IVec S1048576x20 1 := cmpi .sge main_v56 main_v57
  let main_c_24 : IVec S_ 32 := constantI S_ 32 1#32
  let main_v59 : IVec S1048576x20 32 := broadcastInDim S1048576x20 ![] bcast_S_S1048576x20 main_c_24
  let main_v60 : IVec S1048576x20 32 := subi main_v56 main_v59
  let main_c_25 : IVec S_ 32 := constantI S_ 32 2#32
  let main_v61 : IVec S1048576x20 32 := broadcastInDim S1048576x20 ![] bcast_S_S1048576x20 main_c_25
  let main_v62 : IVec S1048576x20 32 := Host.remsi main_v60 main_v61
  let main_c_26 : IVec S_ 32 := constantI S_ 32 6#32
  let main_v63 : IVec S1048576x20 32 := broadcastInDim S1048576x20 ![] bcast_S_S1048576x20 main_c_26
  let main_v64 : IVec S1048576x20 32 := addi main_v63 main_v62
  let main_v65 : IVec S1048576x20 1 := cmpi .eq main_v1 main_v64
  let main_v66 : IVec S1048576x20 1 := andi main_v58 main_v65
  fn_part4 (F := F) main_arg0 main_arg2 main_v1 main_v50 main_v56 main_v58 main_v66

def fn_part2 {F : FTy → Type} [FloatOps F] (main_arg0 : IVec S1024x50 32) (main_arg2 : FVec F S1048576x20 .f32) (main_v1 : IVec S1048576x20 32) (main_v20 : IVec S1048576x20 32) (main_v22 : IVec S1048576x20 1) (main_v32 : FVec F S1048576x20 .f32) (main_c_12 : IVec S_ 32) : IVec S1024x50 1 × IVec S1024x50 1 × IVec S1048576x20 1 :=
  let main_v33 : IVec S1048576x20 32 := broadcastInDim S1048576x20 ![] bcast_S_S1048576x20 main_c_12
  let main_v34 : IVec S1048576x20 32 := subi main_v20 main_v33
  let main_c_13 : IVec S_ 32 := constantI S_ 32 2#32
  let main_v35 : IVec S1048576x20 32 := broadcastInDim S1048576x20 ![] bcast_S_S1048576x20 main_c_13
  let main_v36 : IVec S1048576x20 32 := Host.divsi main_v34 main_v35
  let main_c_14 : IVec S_ 32 := constantI S_ 32 0#32
  let main_v37 : IVec S1048576x20 32 := broadcastInDim S1048576x20 ![] bcast_S_S1048576x20 main_c_14
  let main_v38 : IVec S1048576x20 32 := select main_v22 main_v36 main_v37
  let main_c_15 : IVec S_ 32 := constantI S_ 32 1#32
  let main_v39 : IVec S1048576x20 32 := broadcastInDim S1048576x20 ![] bcast_S_S1048576x20 main_c_15
  let main_v40 : IVec S1048576x20 1 := cmpi .sge main_v38 main_v39
  let main_c_16 : IVec S_ 32 := constantI S_ 32 1#32
  let main_v41 : IVec S1048576x20 32 := broadcastInDim S1048576x20 ![] bcast_S_S1048576x20 main_c_16
  let main_v42 : IVec S1048576x20 32 := subi main_v38 main_v41
  let main_c_17 : IVec S_ 32 := constantI S_ 32 2#32
  let main_v43 : IVec S1048576x20 32 := broadcastInDim S1048576x20 ![] bcast_S_S1048576x20 main_c_17
  let main_v44 : IVec S1048576x20 32 := Host.remsi main_v42 main_v43
  let main_c_18 : IVec S_ 32 := constantI S_ 32 4#32
  let main_v45 : IVec S1048576x20 32 := broadcastInDim S1048576x20 ![] bcast_S_S1048576x20 main_c_18
  let main_v46 : IVec S1048576x20 32 := addi main_v45 main_v44
  let main_v47 : IVec S1048576x20 1 := cmpi .eq main_v1 main_v46
  let main_v48 : IVec S1048576x20 1 := andi main_v40 main_v47
  let main_cst_19 : FVec F S_ .f32 := constant S_ .f32 0x3F800000#32
  let main_v49 : FVec F S1048576x20 .f32 := broadcastInDim S1048576x20 ![] bcast_S_S1048576x20 main_cst_19
  fn_part3 (F := F) main_arg0 main_arg2 main_v1 main_v32 main_v38 main_v40 main_v48 main_v49

def fn_part1 {F : FTy → Type} [FloatOps F] (main_arg0 : IVec S1024x50 32) (main_arg2 : FVec F S1048576x20 .f32) (main_v1 : IVec S1048576x20 32) (main_v4 : IVec S1048576x20 1) (main_v14 : FVec F S1048576x20 .f32) (main_v16 : IVec S1048576x20 32) : IVec S1024x50 1 × IVec S1024x50 1 × IVec S1048576x20 1 :=
  let main_c_5 : IVec S_ 32 := constantI S_ 32 2#32
  let main_v17 : IVec S1048576x20 32 := broadcastInDim S1048576x20 ![] bcast_S_S1048576x20 main_c_5
  let main_v18 : IVec S1048576x20 32 := Host.divsi main_v16 main_v17
  let main_c_6 : IVec S_ 32 := constantI S_ 32 0#32
  let main_v19 : IVec S1048576x20 32 := broadcastInDim S1048576x20 ![] bcast_S_S1048576x20 main_c_6
  let main_v20 : IVec S1048576x20 32 := select main_v4 main_v18 main_v19
  let main_c_7 : IVec S_ 32 := constantI S_ 32 1#32
  let main_v21 : IVec S1048576x20 32 := broadcastInDim S1048576x20 ![] bcast_S_S1048576x20 main_c_7
  let main_v22 : IVec S1048576x20 1 := cmpi .sge main_v20 main_v21
  let main_c_8 : IVec S_ 32 := constantI S_ 32 1#32
  let main_v23 : IVec S1048576x20 32 := broadcastInDim S1048576x20 ![] bcast_S_S1048576x20 main_c_8
  let main_v24 : IVec S1048576x20 32 := subi main_v20 main_v23
  let main_c_9 : IVec S_ 32 := constantI S_ 32 2#32
  let main_v25 : IVec S1048576x20 32 := broadcastInDim S1048576x20 ![] bcast_S_S1048576x20 main_c_9
  let main_v26 : IVec S1048576x20 32 := Host.remsi main_v24 main_v25
  let main_c_10 : IVec S_ 32 := constantI S_ 32 2#32
  let main_v27 : IVec S1048576x20 32 := broadcastInDim S1048576x20 ![] bcast_S_S1048576x20 main_c_10
  let main_v28 : IVec S1048576x20 32 := addi main_v27 main_v26
  let main_v29 : IVec S1048576x20 1 := cmpi .eq main_v1 main_v28
  let main_v30 : IVec S1048576x20 1 := andi main_v22 main_v29
  let main_cst_11 : FVec F S_ .f32 := constant S_ .f32 0x3F800000#32
  let main_v31 : FVec F S1048576x20 .f32 := broadcastInDim S1048576x20 ![] bcast_S_S1048576x20 main_cst_11
  let main_v32 : FVec F S1048576x20 .f32 := select main_v30 main_v31 main_v14
  let main_c_12 : IVec S_ 32 := constantI S_ 32 1#32
  fn_part2 (F := F) main_arg0 main_arg2 main_v1 main_v20 main_v22 main_v32 main_c_12

def fn {F : FTy → Type} [FloatOps F] (main_arg0 : IVec S1024x50 32) (main_arg1 : FVec F S32 .f32) (main_arg2 : FVec F S1048576x20 .f32) : IVec S1024x50 1 × IVec S1024x50 1 × IVec S1048576x20 1 :=
  let main_v0 : IVec S1048576x20 32 := iotaInDim S1048576x20 32 0
  let main_v1 : IVec S1048576x20 32 := iotaInDim S1048576x20 32 1
  let main_cst : FVec F S_ .f32 := constant S_ .f32 0x00000000#32
  let main_v2 : FVec F S1048576x20 .f32 := broadcastInDim S1048576x20 ![] bcast_S_S1048576x20 main_cst
  let main_c : IVec S_ 32 := constantI S_ 32 1#32
  let main_v3 : IVec S1048576x20 32 := broadcastInDim S1048576x20 ![] bcast_S_S1048576x20 main_c
  let main_v4 : IVec S1048576x20 1 := cmpi .sge main_v0 main_v3
  let main_c_0 : IVec S_ 32 := constantI S_ 32 1#32
  let main_v5 : IVec S1048576x20 32 := broadcastInDim S1048576x20 ![] bcast_S_S1048576x20 main_c_0
  let main_v6 : IVec S1048576x20 32 := subi main_v0 main_v5
  let main_c_1 : IVec S_ 32 := constantI S_ 32 2#32
  let main_v7 : IVec S1048576x20 32 := broadcastInDim S1048576x20 ![] bcast_S_S1048576x20 main_c_1
  let main_v8 : IVec S1048576x20 32 := Host.remsi main_v6 main_v7
  let main_c_2 : IVec S_ 32 := constantI S_ 32 0#32
  let main_v9 : IVec S1048576x20 32 := broadcastInDim S1048576x20 ![] bcast_S_S1048576x20 main_c_2
  let main_v10 : IVec S1048576x20 32 := addi main_v9 main_v8
  let main_v11 : IVec S1048576x20 1 := cmpi .eq main_v1 main_v10
  let main_v12 : IVec S1048576x20 1 := andi main_v4 main_v11
  let main_cst_3 : FVec F S_ .f32 := constant S_ .f32 0x3F800000#32
  let main_v13 : FVec F S1048576x20 .f32 := broadcastInDim S1048576x20 ![] bcast_S_S1048576x20 main_cst_3
  let main_v14 : FVec F S1048576x20 .f32 := select main_v12 main_v13 main_v2
  let main_c_4 : IVec S_ 32 := constantI S_ 32 1#32
  let main_v15 : IVec S1048576x20 32 := broadcastInDim S1048576x20 ![] bcast_S_S1048576x20 main_c_4
  let main_v16 : IVec S1048576x20 32 := subi main_v0 main_v15
  fn_part1 (F := F) main_arg0 main_arg2 main_v1 main_v4 main_v14 main_v16
-- ==== Kernel.lean ====
abbrev S1024x50 : Shape := ⟨2, ![1024, 50]⟩
abbrev S32 : Shape := ⟨1, ![32]⟩
abbrev S1048576x20 : Shape := ⟨2, ![1048576, 20]⟩
abbrev S1x32 : Shape := ⟨2, ![1, 32]⟩
abbrev S50x1024 : Shape := ⟨2, ![50, 1024]⟩
abbrev S50x1024x640 : Shape := ⟨3, ![50, 1024, 640]⟩
abbrev S50x128 : Shape := ⟨2, ![50, 128]⟩
abbrev S50x128x640 : Shape := ⟨3, ![50, 128, 640]⟩
abbrev S1x640 : Shape := ⟨2, ![1, 640]⟩
abbrev S640 : Shape := ⟨1, ![640]⟩
abbrev S1x1x640 : Shape := ⟨3, ![1, 1, 640]⟩
abbrev S50x128x1 : Shape := ⟨3, ![50, 128, 1]⟩
abbrev S1024x50x640 : Shape := ⟨3, ![1024, 50, 640]⟩

abbrev nBuf : Space → Nat
  | .hbm => 7
  | .vmem => 5
  | .smem => 0
  | _ => 0

abbrev bufTy : (tb : Table) → Fin (tcTables nBuf tb) → BufTy
  | .hbm, ⟨0, _⟩ => ⟨S1024x50, .i32⟩
  | .hbm, ⟨1, _⟩ => ⟨S32, .f32⟩
  | .hbm, ⟨2, _⟩ => ⟨S1048576x20, .f32⟩
  | .hbm, ⟨3, _⟩ => ⟨S1x32, .f32⟩
  | .hbm, ⟨4, _⟩ => ⟨S50x1024, .i32⟩
  | .hbm, ⟨5, _⟩ => ⟨S50x1024x640, .f32⟩
  | .hbm, ⟨6, _⟩ => ⟨S1024x50x640, .f32⟩
  | .local _ .vmem, ⟨0, _⟩ => ⟨S50x128, .i32⟩
  | .local _ .vmem, ⟨1, _⟩ => ⟨S50x128, .i32⟩
  | .local _ .vmem, ⟨2, _⟩ => ⟨S1x32, .f32⟩
  | .local _ .vmem, ⟨3, _⟩ => ⟨S50x128x640, .f32⟩
  | .local _ .vmem, ⟨4, _⟩ => ⟨S50x128x640, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S50x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S50x128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1024x50 : Shape := ⟨2, ![1024, 50]⟩
abbrev S32 : Shape := ⟨1, ![32]⟩
abbrev S1048576x20 : Shape := ⟨2, ![1048576, 20]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x20 : Shape := ⟨3, ![1024, 50, 20]⟩
abbrev S10 : Shape := ⟨1, ![10]⟩
abbrev S1x32 : Shape := ⟨2, ![1, 32]⟩
abbrev S10x1 : Shape := ⟨2, ![10, 1]⟩
abbrev S10x32 : Shape := ⟨2, ![10, 32]⟩
abbrev S1x10x1x32 : Shape := ⟨4, ![1, 10, 1, 32]⟩
abbrev S2x10x1x32 : Shape := ⟨4, ![2, 10, 1, 32]⟩
abbrev S20x32 : Shape := ⟨2, ![20, 32]⟩
abbrev S1024x50x20x1 : Shape := ⟨4, ![1024, 50, 20, 1]⟩
abbrev S1x1x20x32 : Shape := ⟨4, ![1, 1, 20, 32]⟩
abbrev S1024x50x20x32 : Shape := ⟨4, ![1024, 50, 20, 32]⟩
abbrev S1024x50x640 : Shape := ⟨3, ![1024, 50, 640]⟩

abbrev nBuf : Space → Nat
  | .hbm => 63
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S32, .f32⟩
  | .hbm, ⟨2, _⟩ => ⟨S1048576x20, .f32⟩
  | .hbm, ⟨3, _⟩ => ⟨S_, .i32⟩
  | .hbm, ⟨4, _⟩ => ⟨S1024x50, .i32⟩
  | .hbm, ⟨5, _⟩ => ⟨S1024x50, .i32⟩
  | .hbm, ⟨6, _⟩ => ⟨S_, .i32⟩
  | .hbm, ⟨7, _⟩ => ⟨S_, .i32⟩
  | .hbm, ⟨8, _⟩ => ⟨S1024x50, .i32⟩
  | .hbm, ⟨9, _⟩ => ⟨S1024x50, .i32⟩
  | .hbm, ⟨10, _⟩ => ⟨S_, .i32⟩
  | .hbm, ⟨11, _⟩ => ⟨S1024x50, .i32⟩
  | .hbm, ⟨12, _⟩ => ⟨S1024x50, .i1⟩
  | .hbm, ⟨13, _⟩ => ⟨S_, .i32⟩
  | .hbm, ⟨14, _⟩ => ⟨S1024x50, .i32⟩
  | .hbm, ⟨15, _⟩ => ⟨S1024x50, .i32⟩
  | .hbm, ⟨16, _⟩ => ⟨S1024x50, .i32⟩
  | .hbm, ⟨17, _⟩ => ⟨S1024x50x1, .i32⟩
  | .hbm, ⟨18, _⟩ => ⟨S1, .i32⟩
  | .hbm, ⟨19, _⟩ => ⟨S_, .i32⟩
  | .hbm, ⟨20, _⟩ => ⟨S1024x50x1, .i32⟩
  | .hbm, ⟨21, _⟩ => ⟨S1024x50x1, .i1⟩
  | .hbm, ⟨22, _⟩ => ⟨S1x1x1, .i32⟩
  | .hbm, ⟨23, _⟩ => ⟨S1024x50x1, .i32⟩
  | .hbm, ⟨24, _⟩ => ⟨S1024x50x1, .i1⟩
  | .hbm, ⟨25, _⟩ => ⟨S1024x50x1, .i1⟩
  | .hbm, ⟨26, _⟩ => ⟨S_, .i1⟩
  | .hbm, ⟨27, _⟩ => ⟨S1024x50, .i1⟩
  | .hbm, ⟨28, _⟩ => ⟨S1024x50x20, .f32⟩
  | .hbm, ⟨29, _⟩ => ⟨S1024x50x20, .i1⟩
  | .hbm, ⟨30, _⟩ => ⟨S_, .f32⟩
  | .hbm, ⟨31, _⟩ => ⟨S1024x50x20, .f32⟩
  | .hbm, ⟨32, _⟩ => ⟨S1024x50x20, .f32⟩
  | .hbm, ⟨33, _⟩ => ⟨S32, .f32⟩
  | .hbm, ⟨34, _⟩ => ⟨S10, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S1x32, .f32⟩
  | .hbm, ⟨47, _⟩ => ⟨S10x1, .f32⟩
  | .hbm, ⟨48, _⟩ => ⟨S10x32, .f32⟩
  | .hbm, ⟨49, _⟩ => ⟨S10x32, .f32⟩
  | .hbm, ⟨50, _⟩ => ⟨S10x32, .f32⟩
  | .hbm, ⟨51, _⟩ => ⟨S1x32, .f32⟩
  | .hbm, ⟨52, _⟩ => ⟨S10x32, .f32⟩
  | .hbm, ⟨53, _⟩ => ⟨S10x32, .f32⟩
  | .hbm, ⟨54, _⟩ => ⟨S1x10x1x32, .f32⟩
  | .hbm, ⟨55, _⟩ => ⟨S2x10x1x32, .f32⟩
  | .hbm, ⟨56, _⟩ => ⟨S20x32, .f32⟩
  | .hbm, ⟨57, _⟩ => ⟨S1024x50x20x1, .f32⟩
  | .hbm, ⟨58, _⟩ => ⟨S1x1x20x32, .f32⟩
  | .hbm, ⟨59, _⟩ => ⟨S1024x50x20x32, .f32⟩
  | .hbm, ⟨60, _⟩ => ⟨S1024x50x20x32, .f32⟩
  | .hbm, ⟨61, _⟩ => ⟨S1024x50x20x32, .f32⟩
  | .hbm, ⟨62, _⟩ => ⟨S1024x50x640, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.Pointwise

/-!
# The integer words of a lane

The kernel lays a result row out on 640 lanes: lane `l` holds feature `l % 32` of word `l / 32`. From an `iota` it
computes four integer words per lane by divisions and remainders. This module says what each of them is.
-/

@[expose] public section

set_option maxRecDepth 16384

namespace Cert.KernelIdeal.Lane

open Idealize.ShloMosaic Cert.KernelIdeal Cert.KernelIdeal.Gen

noncomputable section

/-- The word of a lane: lane `l` belongs to word `l / 32`. -/
theorem word_apply (i : grid0.Coords) (a : Fin 1) (l : Fin 640) :
    k0_pay2 i (ix2 a l) = BitVec.ofNat 32 (l.val / 32) := by
  pointwise [k0_pay2]
  revert l
  decide +kernel

/-- The tree level a lane's word speaks of: two words to a level. -/
theorem level_apply (i : grid0.Coords) (a : Fin 1) (l : Fin 640) :
    k0_pay6 (k0_pay2 i) (k0_pay3 i) (k0_pay4 i) k0_pay5 (ix2 a l) = BitVec.ofNat 32 (l.val / 32 / 2) := by
  pointwise [k0_pay6, k0_pay3, k0_pay4, k0_pay5]
  rw [word_apply]
  revert l
  decide +kernel

/-- The branch a lane's word speaks of: the parity of the word. -/
theorem branch_apply (i : grid0.Coords) (a : Fin 1) (l : Fin 640) :
    k0_pay7 (k0_pay2 i) (ix2 a l) = BitVec.ofNat 32 (l.val / 32 % 2) := by
  pointwise [k0_pay7]
  rw [word_apply]
  revert l
  decide +kernel

/-- The exponent of a lane: its word modulo ten. -/
theorem exponent_apply (i : grid0.Coords) (a : Fin 1) (l : Fin 640) :
    k0_pay8 (k0_pay2 i) (ix2 a l) = BitVec.ofNat 32 (l.val / 32 % 10) := by
  pointwise [k0_pay8]
  rw [word_apply]
  revert l
  decide +kernel

end

end Cert.KernelIdeal.Lane

end
-- ==== Proof.Decay.lean ====
module

public import Idealize.ShloMosaic.Lib.Pointwise
public import Idealize.ShloMosaic.PureOps.Ideal.Laws
public import Idealize.ShloMosaic.Lib.Routing.Words

/-!
# The number one lane holds when its branch is taken

Feature weight `u` enters through `tanh u`. A lane of exponent `e` holds `scale u * tanh u ^ e`, where `scale u` is the
square root of `(1 - tanh² u) · 16`. This module states that number and shows that the two ways it is computed agree:
the product of selected binary powers (`binary_eq_decay`), and the real power times the square root of
`(1 - tanh² u) · 32 / 2` (`power_eq_decay`). The hyperbolic tangent of every extended real is a real number, so neither
needs anything of the weight.
-/

@[expose] public section

namespace Cert.PathEncoding

open Idealize.ShloMosaic Idealize.ShloMosaic.WordCmp

noncomputable section

/-- The scale of a feature of weight `u`. -/
def scale (u : EReal) : EReal := Ideal.sqrt ((1 - Ideal.tanh u * Ideal.tanh u) * 16)

/-- What a taken lane of exponent `e` holds for a feature of weight `u`. -/
def decay (u : EReal) (e : ℕ) : EReal := scale u * Ideal.tanh u ^ e

/-- The float literal 16. -/
theorem ofBits_sixteen : Ideal.ofBits FTy.f32 0x41800000#32 = 16 := by
  rw [show (16 : EReal) = ((16 : ℝ) : EReal) from rfl]
  simp [Ideal.ofBits, Ideal.ieee, -EReal.coe_mul]
  norm_num

/-- The float literal 32. -/
theorem ofBits_thirtytwo : Ideal.ofBits FTy.f32 0x42000000#32 = 32 := by
  rw [show (32 : EReal) = ((32 : ℝ) : EReal) from rfl]
  simp [Ideal.ofBits, Ideal.ieee, -EReal.coe_mul]
  norm_num

/-- The float literal 2. -/
theorem ofBits_two : Ideal.ofBits FTy.f32 0x40000000#32 = 2 := by
  rw [show (2 : EReal) = ((2 : ℝ) : EReal) from rfl]
  simp [Ideal.ofBits, Ideal.ieee, -EReal.coe_mul]
  norm_num

/-- The hyperbolic tangent of an extended real is a real number. -/
theorem tanh_real (u : EReal) : ∃ r : ℝ, Ideal.tanh u = (r : EReal) := by
  induction u with
  | bot => exact ⟨-1, by rw [Ideal.tanh_bot]; rfl⟩
  | top => exact ⟨1, by rw [Ideal.tanh_top]; rfl⟩
  | coe r => exact ⟨Real.tanh r, Ideal.tanh_coe r⟩

/-- The real power with a natural exponent, times the scale computed as the square root of `(1 - tanh² u) · 32 / 2`, is
`decay`. -/
theorem power_eq_decay (u : EReal) (e : ℕ) (he : e < 10) :
    Ideal.pow (Ideal.tanh u) (FloatOps.sitofp (F := Ideal) FTy.f32 (BitVec.ofNat 32 e))
      * Ideal.sqrt (Ideal.div ((1 - Ideal.tanh u * Ideal.tanh u) * 32) 2) = decay u e := by
  obtain ⟨r, hr⟩ := tanh_real u
  have hi : (BitVec.ofNat 32 e).toInt = (e : ℤ) := by
    revert he; revert e; decide
  have hs : FloatOps.sitofp (F := Ideal) FTy.f32 (BitVec.ofNat 32 e) = ((e : ℝ) : EReal) := by
    show (((BitVec.ofNat 32 e).toInt : ℝ) : EReal) = _
    rw [hi, Int.cast_natCast]
  have h2 : (2 : EReal) = ((2 : ℝ) : EReal) := rfl
  have h16 : (16 : EReal) = ((16 : ℝ) : EReal) := rfl
  have h32 : (32 : EReal) = ((32 : ℝ) : EReal) := rfl
  have h1 : (1 : EReal) = ((1 : ℝ) : EReal) := rfl
  have hd : Ideal.div ((1 - Ideal.tanh u * Ideal.tanh u) * 32) 2 = (1 - Ideal.tanh u * Ideal.tanh u) * 16 := by
    rw [h2, Ideal.div_coe two_ne_zero, hr, h1, h32, h16]
    rw [← EReal.coe_mul, ← EReal.coe_sub, ← EReal.coe_mul, ← EReal.coe_mul, ← EReal.coe_mul]
    congr 1
    ring
  rw [hd, hs, decay, scale, mul_comm]
  congr 1
  rw [hr, Ideal.pow_coe_coe, ← EReal.coe_pow]
  congr 1
  exact Real.rpow_natCast r e

/-- The scale times the powers `1, 2, 4, 8` of `tanh u` selected by the bits of the exponent is `decay`. -/
theorem binary_eq_decay (u : EReal) (e : ℕ) (he : e < 10) :
    scale u
        * Scalar.select (IntOp.cmpi .ne (IntOp.andi (BitVec.ofNat 32 e) 1#32) 0#32) (Ideal.tanh u) 1
        * Scalar.select (IntOp.cmpi .ne (IntOp.andi (BitVec.ofNat 32 e) 2#32) 0#32) (Ideal.tanh u * Ideal.tanh u) 1
        * Scalar.select (IntOp.cmpi .ne (IntOp.andi (BitVec.ofNat 32 e) 4#32) 0#32)
            (Ideal.tanh u * Ideal.tanh u * (Ideal.tanh u * Ideal.tanh u)) 1
        * Scalar.select (IntOp.cmpi .ne (IntOp.andi (BitVec.ofNat 32 e) 8#32) 0#32)
            (Ideal.tanh u * Ideal.tanh u * (Ideal.tanh u * Ideal.tanh u)
              * (Ideal.tanh u * Ideal.tanh u * (Ideal.tanh u * Ideal.tanh u))) 1
      = decay u e := by
  have bit : ∀ (k : ℕ) (x : EReal), k < 10 → ∀ q : ℕ, q = 1 ∨ q = 2 ∨ q = 4 ∨ q = 8 →
      Scalar.select (IntOp.cmpi .ne (IntOp.andi (BitVec.ofNat 32 k) (BitVec.ofNat 32 q)) 0#32) x 1
        = x ^ (k / q % 2) := by
    intro k x hk q hq
    have h : ∀ k : Fin 10, ∀ q : Fin 9, q.val = 1 ∨ q.val = 2 ∨ q.val = 4 ∨ q.val = 8 →
        IntOp.cmpi .ne (IntOp.andi (BitVec.ofNat 32 k.val) (BitVec.ofNat 32 q.val)) 0#32
          = BitVec.ofBool (decide (k.val / q.val % 2 = 1)) := by decide
    rw [h ⟨k, hk⟩ ⟨q, by omega⟩ hq, select_ofBool]
    rcases Nat.mod_two_eq_zero_or_one (k / q) with h0 | h0 <;> simp [h0]
  rw [bit e _ he 1 (by omega), bit e _ he 2 (by omega), bit e _ he 4 (by omega), bit e _ he 8 (by omega), decay]
  simp only [← pow_two, ← pow_mul, mul_assoc, ← pow_add]
  congr 2
  omega

end

end Cert.PathEncoding

end
-- ==== Proof.Row.lean ====
module

public import proofs.«01_k».proof.Proof.Words
public import proofs.«01_k».proof.Proof.Decay
public import Idealize.ShloMosaic.Lib.Pipeline.Value

/-!
# The row of decay values

The kernel computes, once per grid point, a row of 640 floats: at lane `l` the scale of feature `l % 32` times the
power of that feature's weight whose exponent is the lane's. This module reads that row at a lane.
-/

@[expose] public section

set_option maxRecDepth 16384

namespace Cert.KernelIdeal.Lane

open Idealize.ShloMosaic Cert.PathEncoding Cert.KernelIdeal Cert.KernelIdeal.Gen

noncomputable section

/-- One row of 32 features laid out twenty times side by side: lane `l` holds feature `l % 32`. -/
def tiled {α : Type} (x : S1x32.Idx → α) : S1x640.Idx → α :=
  fun j => x (ix2 0 ⟨(j 1).val % 32, Nat.mod_lt _ (by decide)⟩)

/-- The printed concatenation of twenty copies of one row is that layout. -/
theorem concatenate_eq_tiled {α : Type} (x : S1x32.Idx → α) (h) :
    concatenate S1x640 1 [⟨S1x32, x⟩, ⟨S1x32, x⟩, ⟨S1x32, x⟩, ⟨S1x32, x⟩, ⟨S1x32, x⟩, ⟨S1x32, x⟩, ⟨S1x32, x⟩,
      ⟨S1x32, x⟩, ⟨S1x32, x⟩, ⟨S1x32, x⟩, ⟨S1x32, x⟩, ⟨S1x32, x⟩, ⟨S1x32, x⟩, ⟨S1x32, x⟩, ⟨S1x32, x⟩, ⟨S1x32, x⟩,
      ⟨S1x32, x⟩, ⟨S1x32, x⟩, ⟨S1x32, x⟩, ⟨S1x32, x⟩] h = tiled x := by
  funext j
  refine concatenate_replicate_apply (α := α) (t := S1x640) (s₁ := S1x32) (1 : Fin 2) 20 x h rfl j _ ?_ ?_
  · rfl
  · intro b hb
    have h0 : b = 0 := by
      match b, hb with
      | ⟨0, _⟩, _ => rfl
      | ⟨1, _⟩, hb => exact absurd rfl hb
    subst h0
    have := (j 0).isLt
    exact (Nat.lt_one_iff.mp this).symm

/-- The row at a lane: lane `l` holds, for feature `l % 32`, the number of exponent `l / 32 % 10`. -/
theorem row_apply (i : grid0.Coords) (x : Vec Ideal S1x32 .f32) (a b : Fin 1) (l : Fin 640) :
    k0_pay11 (k0_pay8 (k0_pay2 i)) (k0_pay9 x) (k0_pay10 x) (1 : EReal) (ix3 a b l)
      = decay (x (ix2 0 ⟨l.val % 32, Nat.mod_lt _ (by decide)⟩)) (l.val / 32 % 10) := by
  unfold k0_pay11 k0_pay10
  simp only [concatenate_eq_tiled]
  pointwise [tiled, k0_pay9]
  rw [exponent_apply, ofBits_sixteen]
  exact binary_eq_decay _ _ (Nat.mod_lt _ (by decide))

end

end Cert.KernelIdeal.Lane

end
-- ==== Proof.Branch.lean ====
module

public import Idealize.ShloMosaic.Lib.Pointwise
public import Idealize.ShloMosaic.Lib.Routing.Words

/-!
# Which branch a node's path takes at a level

The nodes of a binary tree are numbered from 0 at the root, the children of node `n` being `2 n + 1` and `2 n + 2`.
Read from node `n` upward, the ancestor `t` levels up is `(n + 1) / 2 ^ t - 1`. Word `k` of a path speaks of level
`k / 2` and of branch `k % 2`: it is set exactly when the ancestor at that level is not the root and hangs on that
branch (`Taken`). This module proves the words a program computes of it: the step from a node to its parent
(`parent_word`), the branch under the parent (`branch_word`), and the test by a shift of `max(position, 1)`
(`mark_eq`).
-/

@[expose] public section

namespace Cert.PathEncoding

open Idealize.ShloMosaic Idealize.ShloMosaic.Routing Idealize.ShloMosaic.WordCmp

/-- The ancestor of node `n`, `t` levels up; the root stands for everything above the root. -/
def ancestor (n t : ℕ) : ℕ := (n + 1) / 2 ^ t - 1

/-- Word `k` of the path of node `n` is set. -/
def Taken (n k : ℕ) : Prop := 2 ≤ (n + 1) / 2 ^ (k / 2) ∧ (n + 1) / 2 ^ (k / 2) % 2 = k % 2

instance (n k : ℕ) : Decidable (Taken n k) := inferInstanceAs (Decidable (_ ∧ _))

/-- No step up leaves the node itself. -/
theorem ancestor_zero (n : ℕ) : ancestor n 0 = n := by
  simp [ancestor]

/-- One step more goes to the parent, `(k - 1) / 2` of node `k`. -/
theorem ancestor_succ (n t : ℕ) : ancestor n (t + 1) = (ancestor n t - 1) / 2 := by
  unfold ancestor
  rw [pow_succ, ← Nat.div_div_eq_div_mul]
  omega

/-- An ancestor's number is at most the node's. -/
theorem ancestor_le (n t : ℕ) : ancestor n t ≤ n := by
  have := Nat.div_le_self (n + 1) (2 ^ t)
  unfold ancestor
  omega

/-- The word of a natural less one. -/
theorem pred_word (c : ℕ) : IntOp.subi (BitVec.ofNat 32 (c + 1)) 1#32 = BitVec.ofNat 32 c := by
  show BitVec.ofNat 32 (c + 1) - 1#32 = _
  rw [BitVec.ofNat_add]
  exact BitVec.add_sub_cancel ..

/-- One step up the tree, on words: from the word of a node to the word of its parent, the root staying where it is. -/
theorem parent_word (c : ℕ) (hc : c < 2 ^ 20) :
    Scalar.select (IntOp.cmpi .sge (BitVec.ofNat 32 c) 1#32)
      (IntOp.divsi .host (IntOp.subi (BitVec.ofNat 32 c) 1#32) 2#32) 0#32 = BitVec.ofNat 32 ((c - 1) / 2) := by
  rw [cmpi_sge_ofNat (by omega) (by decide), select_ofBool]
  rcases Nat.eq_zero_or_pos c with h | h
  · subst h; rfl
  · obtain ⟨d, rfl⟩ : ∃ d, c = d + 1 := ⟨c - 1, by omega⟩
    rw [pred_word, divsi_word .host (by omega) (by decide) (by decide)]
    simp

/-- The test that level `t`'s node is not the root and hangs on the branch word `w` speaks of. -/
theorem branch_word (c t w : ℕ) (hc : c < 2 ^ 20) (ht : t < 10) (hw : w < 20) :
    IntOp.andi (IntOp.cmpi .sge (BitVec.ofNat 32 c) 1#32)
        (IntOp.cmpi .eq (BitVec.ofNat 32 w)
          (IntOp.addi (BitVec.ofNat 32 (2 * t)) (IntOp.remsi .host (IntOp.subi (BitVec.ofNat 32 c) 1#32) 2#32)))
      = BitVec.ofBool (decide (2 ≤ c + 1 ∧ w = 2 * t + (c + 1) % 2)) := by
  rw [cmpi_sge_ofNat (by omega) (by decide)]
  rcases Nat.eq_zero_or_pos c with h | h
  · subst h
    simp [IntOp.andi]
  · obtain ⟨d, rfl⟩ : ∃ d, c = d + 1 := ⟨c - 1, by omega⟩
    rw [pred_word, remsi_word .host (by omega) (by decide) (by decide)]
    have ha : IntOp.addi (BitVec.ofNat 32 (2 * t)) (BitVec.ofNat 32 (d % 2)) = BitVec.ofNat 32 (2 * t + d % 2) :=
      (BitVec.ofNat_add _ _).symm
    rw [ha, cmpi_eq_ofNat (by omega) (by omega), andi_ofBool]
    congr 1
    rw [Bool.eq_iff_iff]
    simp only [Bool.and_eq_true, decide_eq_true_eq]
    omega

/-- The word of a natural shifted right. -/
theorem shift_word (a t : ℕ) (ha : a < 2 ^ 31) (ht : t < 32) :
    IntOp.shrsi .vector (BitVec.ofNat 32 a) (BitVec.ofNat 32 t) = BitVec.ofNat 32 (a / 2 ^ t) := by
  have e : (BitVec.ofNat 32 t).toNat = t := by
    rw [BitVec.toNat_ofNat]; omega
  have ea : (BitVec.ofNat 32 a).toNat = a := by
    rw [BitVec.toNat_ofNat]; omega
  have hm : (BitVec.ofNat 32 a).msb = false := by
    rw [BitVec.msb_eq_false_iff_two_mul_lt, ea]; omega
  unfold IntOp.shrsi
  rw [e, if_pos ht, BitVec.sshiftRight', BitVec.sshiftRight_eq_of_msb_false hm, e]
  apply BitVec.eq_of_toNat_eq
  have : a / 2 ^ t ≤ a := Nat.div_le_self _ _
  rw [BitVec.toNat_ushiftRight, ea, Nat.shiftRight_eq_div_pow, BitVec.toNat_ofNat, Nat.mod_eq_of_lt (by omega)]

/-- The kernel's test of word `k` at position `p`: it shifts `max(p, 1)` right by the level, asks whether at least two is
left and whether the low bit is the branch. -/
def mark (p : BitVec 32) (k : ℕ) : BitVec 1 :=
  IntOp.andi
    (IntOp.cmpi .sge (IntOp.shrsi .vector (IntOp.maxsi p 1#32) (BitVec.ofNat 32 (k / 2))) 2#32)
    (IntOp.cmpi .eq (IntOp.andi (IntOp.shrsi .vector (IntOp.maxsi p 1#32) (BitVec.ofNat 32 (k / 2))) 1#32)
      (BitVec.ofNat 32 (k % 2)))

/-- Position `p` stands for node `n` of the table: `p - 1`, raised to 0 where it is negative, is the word of `n`, and `p`,
raised to 1, is the word of `n + 1`. -/
def Names (p : BitVec 32) (n : ℕ) : Prop :=
  n < 2 ^ 20 ∧ IntOp.maxsi 0#32 (IntOp.subi p 1#32) = BitVec.ofNat 32 n ∧ IntOp.maxsi p 1#32 = BitVec.ofNat 32 (n + 1)

/-- The signed value of the word of a small natural. -/
theorem toInt_small (n : ℕ) (hn : n < 2 ^ 31) : (BitVec.ofNat 32 n).toInt = n := by
  rw [BitVec.toInt_eq_toNat_of_lt (by rw [BitVec.toNat_ofNat]; omega), BitVec.toNat_ofNat]
  omega

/-- The signed value of a maximum is the maximum of the signed values. -/
theorem toInt_maxsi (x y : BitVec 32) : (IntOp.maxsi x y).toInt = max x.toInt y.toInt := by
  unfold IntOp.maxsi
  by_cases h : y.toInt < x.toInt
  · rw [if_pos (by simpa [BitVec.slt] using h)]
    omega
  · rw [if_neg (by simpa [BitVec.slt] using h)]
    omega

/-- Every position from the second least int32 up to the number of nodes stands for a node. -/
theorem names_of_range (p : BitVec 32) (h0 : -2147483648 < p.toInt) (h1 : p.toInt ≤ 1048576) :
    ∃ n, Names p n := by
  have hs : (IntOp.subi p 1#32).toInt = p.toInt - 1 := by
    show (p - 1#32).toInt = _
    rw [BitVec.toInt_sub]
    exact Int.bmod_eq_of_le (by show -2147483648 ≤ p.toInt - 1; omega) (by show p.toInt - 1 < 2147483648; omega)
  have z : (0#32).toInt = 0 := rfl
  have o : (1#32).toInt = 1 := rfl
  refine ⟨(p.toInt - 1).toNat, by omega, BitVec.eq_of_toInt_eq ?_, BitVec.eq_of_toInt_eq ?_⟩
  · rw [toInt_maxsi, hs, z, toInt_small _ (by omega)]
    omega
  · rw [toInt_maxsi, o, toInt_small _ (by omega)]
    omega

/-- On a position that stands for a node, the kernel's test says whether the word of that node is set. -/
theorem mark_eq {p : BitVec 32} {n : ℕ} (h : Names p n) (k : ℕ) (hk : k < 20) :
    mark p k = BitVec.ofBool (decide (Taken n k)) := by
  obtain ⟨hn, -, hp⟩ := h
  have key : ∀ q : ℕ, q < 2 ^ 31 →
      IntOp.andi (IntOp.cmpi .sge (BitVec.ofNat 32 q) 2#32)
        (IntOp.cmpi .eq (IntOp.andi (BitVec.ofNat 32 q) 1#32) (BitVec.ofNat 32 (k % 2)))
      = BitVec.ofBool (decide (2 ≤ q ∧ q % 2 = k % 2)) := by
    intro q hq
    have hand : IntOp.andi (BitVec.ofNat 32 q) 1#32 = BitVec.ofNat 32 (q % 2) := by
      show BitVec.ofNat 32 q &&& 1#32 = _
      apply BitVec.eq_of_toNat_eq
      simp only [BitVec.toNat_and, BitVec.toNat_ofNat]
      rw [Nat.mod_eq_of_lt (by omega : q < 2 ^ 32)]
      show q &&& 1 = _
      rw [Nat.and_one_is_mod]
      omega
    rw [hand, cmpi_sge_ofNat (by omega) (by decide), cmpi_eq_ofNat (by omega) (by omega), andi_ofBool]
    congr 1
    rw [Bool.eq_iff_iff]
    simp only [Bool.and_eq_true, decide_eq_true_eq]
  have hq : (n + 1) / 2 ^ (k / 2) ≤ n + 1 := Nat.div_le_self _ _
  unfold mark
  rw [hp, shift_word _ _ (by omega) (by omega)]
  exact key _ (by omega)

end Cert.PathEncoding

end
-- ==== Proof.Block.lean ====
module

public import proofs.«01_k».proof.Proof.Row
public import proofs.«01_k».proof.Proof.Branch

/-!
# One block of the result

What the kernel stores at one grid point, read at an element: the number of the lane where the position's path takes
the lane's branch, and 0 elsewhere.
-/

@[expose] public section

set_option maxRecDepth 16384

namespace Cert.KernelIdeal.Lane

open Idealize.ShloMosaic Cert.PathEncoding Cert.KernelIdeal Cert.KernelIdeal.Gen

noncomputable section

/-- What lane `l` holds for position `p`, the weight of the lane's feature being `u`. -/
def lane (p : BitVec 32) (u : EReal) (l : ℕ) : EReal :=
  Scalar.select (mark p (l / 32)) (decay u (l / 32 % 10)) 0

/-- The stored block, a function of the point's blocks of positions and weights. -/
def stored (i : grid0.Coords) (p : Vec Ideal S50x128 .i32) (x : Vec Ideal S1x32 .f32) : FVec Ideal S50x128x640 .f32 :=
  k0_pay1 (k0_pay6 (k0_pay2 i) (k0_pay3 i) (k0_pay4 i) k0_pay5) (k0_pay7 (k0_pay2 i))
    (k0_pay11 (k0_pay8 (k0_pay2 i)) (k0_pay9 x) (k0_pay10 x) (Scalar.ofBits .f32 0x3F800000#32)) p

/-- The stored block at an element. -/
theorem stored_apply (i : grid0.Coords) (p : Vec Ideal S50x128 .i32) (x : Vec Ideal S1x32 .f32)
    (s : Fin 50) (b : Fin 128) (l : Fin 640) :
    stored i p x (ix3 s b l)
      = lane (p (ix2 s b)) (x (ix2 0 ⟨l.val % 32, Nat.mod_lt _ (by decide)⟩)) l.val := by
  pointwise [stored, k0_pay1]
  rw [level_apply, branch_apply, row_apply]
  rfl

end

end Cert.KernelIdeal.Lane

end
-- ==== Proof.KernelValue.lean ====
module

public import proofs.«01_k».proof.Proof.Gen.KernelIdeal.Frame
public import Idealize.ShloMosaic.Lib.Pipeline.Value
public import Idealize.ShloMosaic.Lib.StableHlo.ReadAt
public import proofs.«01_k».proof.Proof.Block

/-!
# The kernel's result array

Each grid point stores one block of 128 positions; the blocks cover the array, and the transpose after them gives the
result.
-/

@[expose] public section

set_option maxRecDepth 16384

namespace Cert.KernelIdeal.Result

open Idealize.ShloMosaic Idealize.ShloMosaic.TcCoe Idealize.SL.Sem
open Idealize.ShloMosaic.Pipeline (Dat)
open Cert.PathEncoding Cert.KernelIdeal Cert.KernelIdeal.Gen Cert.KernelIdeal.Lane

noncomputable section

variable (m : (ℓ : Loc nD τ sig) → Buf (Elt Ideal) ℓ) (ρ : Dev nD → PrngReg)

/-- The positions, as launched. -/
abbrev positions (c : Dev nD) : S1024x50.Idx → BitVec 32 := m ((c.tc : Thread nD τ).loc main_arg0)
/-- The weights, as launched. -/
abbrev weights (c : Dev nD) : S32.Idx → EReal := m ((c.tc : Thread nD τ).loc main_arg1)

/-- The result: lane `l` of position `(b, s)`. -/
def encoding (p : S1024x50.Idx → BitVec 32) (u : S32.Idx → EReal) : S1024x50x640.Idx → EReal := fun i =>
  lane (p (ix2 (i 0) (i 1))) (u (ix1 ⟨(i 2).val % 32, Nat.mod_lt _ (by decide)⟩)) (i 2).val

/-- The array the grid writes: the result with its first two axes exchanged. -/
def written (p : S1024x50.Idx → BitVec 32) (u : S32.Idx → EReal) : S50x1024x640.Idx → EReal := fun i =>
  encoding p u (ix3 (i 1) (i 0) (i 2))

/-- The transposed positions, which the region reads. -/
theorem entry_positions (c : Dev nD) (s : Fin 50) (b : Fin 1024) :
    (V m c main_v1 : S50x1024.Idx → BitVec 32) (ix2 s b) = positions m c (ix2 b s) := by
  show StableHlo.after (List.flatten [hostOps0]) (fun b => m (c, b)) (Proc.devRef .tc main_v1) (ix2 s b) = _
  after_reads_at

/-- The weights as one row, which the region reads. -/
theorem entry_weights (c : Dev nD) (d : Fin 32) :
    (V m c main_v0 : S1x32.Idx → EReal) (ix2 0 d) = weights m c (ix1 d) := by
  show StableHlo.after (List.flatten [hostOps0]) (fun b => m (c, b)) (Proc.devRef .tc main_v0) (ix2 0 d) = _
  after_reads_at

/-- Where the three windows stand at a point. -/
theorem windows (t : Fin cfg0.N) :
    (win0_0.rect t).off 0 = 0 ∧ (win0_0.rect t).off 1 = t.val * 128
    ∧ (win0_1.rect t).off 0 = 0 ∧ (win0_1.rect t).off 1 = 0
    ∧ (win0_2.rect t).off 0 = 0 ∧ (win0_2.rect t).off 1 = t.val * 128 ∧ (win0_2.rect t).off 2 = 0 := by
  revert t
  decide +kernel

/-- The zero offset of rank 3. -/
theorem offset_zero3 : (![0, 0, 0] : Fin 3 → Nat) = fun _ => 0 := funext fun a => by fin_cases a <;> rfl
/-- The zero offset of rank 2. -/
theorem offset_zero2 : (![0, 0] : Fin 2 → Nat) = fun _ => 0 := funext fun a => by fin_cases a <;> rfl

/-- Point `t`'s block of positions: 128 columns from `128 t` on. -/
theorem block_positions (c : Dev nD) (t : Fin cfg0.N) (s : Fin 50) (b : Fin 128) :
    (iblk m c 0 t : S50x128.Idx → BitVec 32) (ix2 s b)
      = positions m c (ix2 ⟨t.val * 128 + b.val, by have := t.isLt; have h : cfg0.N = 8 := N_0; omega⟩ s) := by
  rw [← entry_positions]
  obtain ⟨h0, h1, -⟩ := windows t
  show (V m c main_v1 : S50x1024.Idx → BitVec 32) ((win0_0.rect t).emb (ix2 s b)) = _
  refine congrArg (V m c main_v1 : S50x1024.Idx → BitVec 32) (funext fun a => Fin.ext ?_)
  fin_cases a
  · show (win0_0.rect t).off 0 + 1 * s.val = s.val
    rw [h0]; omega
  · show (win0_0.rect t).off 1 + 1 * b.val = t.val * 128 + b.val
    rw [h1]; omega

/-- Every point's block of weights is the whole row. -/
theorem block_weights (c : Dev nD) (t : Fin cfg0.N) (d : Fin 32) :
    (iblk m c 1 t : S1x32.Idx → EReal) (ix2 0 d) = weights m c (ix1 d) := by
  rw [← entry_weights]
  obtain ⟨-, -, h0, h1, -⟩ := windows t
  show (V m c main_v0 : S1x32.Idx → EReal) ((win0_1.rect t).emb (ix2 0 d)) = _
  refine congrArg (V m c main_v0 : S1x32.Idx → EReal) (funext fun a => Fin.ext ?_)
  fin_cases a
  · show (win0_1.rect t).off 0 + 1 * 0 = 0
    rw [h0]
  · show (win0_1.rect t).off 1 + 1 * d.val = d.val
    rw [h1]; omega

/-- What point `t` writes back is its block of the array `written`. -/
theorem flushed_eq (c : Dev nD) (t : Fin cfg0.N) :
    (dats m 0 c).flushed 2 t = (win0_2.blk t).view.read (Elt Ideal) (written (positions m c) (weights m c)) := by
  show (cfg0.win 2).cut (grid0.coords t) ((dats m 0 c).after 2 t) = _
  rw [after0_2]
  unfold_out out0_2
  rw [View.canon_unit_zero offset_zero3, View.ld_unit_zero offset_zero2, View.ld_unit_zero offset_zero2]
  funext i
  obtain ⟨s, b, l, rfl⟩ : ∃ (s : Fin 50) (b : Fin 128) (l : Fin 640), i = ix3 s b l :=
    ⟨i 0, i 1, i 2, eq_ix3 i⟩
  refine (stored_apply (grid0.coords t) (iblk m c 0 t) (iblk m c 1 t) s b l).trans ?_
  rw [block_positions, block_weights]
  obtain ⟨-, -, -, -, h0, h1, h2⟩ := windows t
  have he : (win0_2.rect t).emb (ix3 s b l) = ix3 s ⟨t.val * 128 + b.val, by
      have := t.isLt; have h : cfg0.N = 8 := N_0; omega⟩ l := funext fun a => Fin.ext (by
    fin_cases a
    · show (win0_2.rect t).off 0 + 1 * s.val = s.val
      rw [h0]; omega
    · show (win0_2.rect t).off 1 + 1 * b.val = t.val * 128 + b.val
      rw [h1]; omega
    · show (win0_2.rect t).off 2 + 1 * l.val = l.val
      rw [h2]; omega)
  show _ = written (positions m c) (weights m c) ((win0_2.rect t).emb (ix3 s b l))
  rw [he]
  rfl

/-- An index of the array is in point `t`'s block exactly when its column is one of the block's 128. -/
theorem mem_block (t : Fin cfg0.N) (i : S50x1024x640.Idx) :
    i ∈ ((cfg0.win 2).blk t).view.set ↔ t.val * 128 ≤ (i 1 : Nat) ∧ (i 1 : Nat) < t.val * 128 + 128 := by
  show i ∈ ((View.whole main_v2).slice (win0_2.rect t)).set ↔ _
  rw [View.set_slice_whole, Rect.mem_set_unit]
  obtain ⟨-, -, -, -, h0, h1, h2⟩ := windows t
  have i0 : (i 0 : Nat) < 50 := (i 0).isLt
  have i2 : (i 2 : Nat) < 640 := (i 2).isLt
  constructor
  · intro h
    have h' : (win0_2.rect t).off 1 ≤ (i 1 : Nat) ∧ (i 1 : Nat) < (win0_2.rect t).off 1 + 128 := h 1
    rwa [h1] at h'
  · intro h a
    fin_cases a
    · show (win0_2.rect t).off 0 ≤ (i 0 : Nat) ∧ (i 0 : Nat) < (win0_2.rect t).off 0 + 50
      rw [h0]; omega
    · show (win0_2.rect t).off 1 ≤ (i 1 : Nat) ∧ (i 1 : Nat) < (win0_2.rect t).off 1 + 128
      rw [h1]; exact h
    · show (win0_2.rect t).off 2 ≤ (i 2 : Nat) ∧ (i 2 : Nat) < (win0_2.rect t).off 2 + 640
      rw [h2]; omega

/-- The eight blocks cover the array. -/
theorem cover (i : S50x1024x640.Idx) :
    ∃ t : Fin cfg0.N, (cfg0.win 2).flush t = true ∧ i ∈ ((cfg0.win 2).blk t).view.set := by
  have h1 : (i 1 : Nat) < 1024 := (i 1).isLt
  have hN : cfg0.N = 8 := N_0
  refine ⟨⟨(i 1 : Nat) / 128, by omega⟩, flush0_2 _, ?_⟩
  rw [mem_block]
  dsimp only
  omega

/-- So the grid leaves `written` in its array. -/
theorem final (c : Dev nD) :
    (dats m 0 c).arrAt 2 cfg0.N = written (positions m c) (weights m c) :=
  (dats m 0 c).arrAt_eq_of_cover 2 _ (fun t _ => flushed_eq m c t) cover

/-- The transpose after the grid turns that array into the result. -/
theorem transposed (c : Dev nD) :
    Pipeline.afterTail₀ cfgs (dats m) 0 (V0 m) [hostOps1] c main_v3 = encoding (positions m c) (weights m c) := by
  have hw : Pipeline.withArrays (cfgs 0).spec c (V0 m c) (fun w => (dats m 0 c).arrAt w (cfgs 0).N)
      (Proc.devRef .tc main_v2) = written (positions m c) (weights m c) :=
    (Pipeline.withArrays_arr (cfgs 0).spec (by decide) c (V0 m c) _ 2).trans (final m c)
  funext i
  unfold Pipeline.afterTail₀
  generalize Pipeline.withArrays (cfgs 0).spec c (V0 m c) (fun w => (dats m 0 c).arrAt w (cfgs 0).N) = W at hw ⊢
  show StableHlo.after (List.flatten [hostOps1]) W (Proc.devRef .tc main_v3) i = _
  after_reads_at
  rw [hw]
  rfl

/-- The kernel's run: the result is `encoding` of the launched positions and weights, and the arguments are kept. -/
theorem run : θ_run defs (onTc (τ := τ) (main (F := Ideal))) ⟨m, fun _ => 0, ρ⟩ fun r => ∀ c : Dev nD,
      r.2.mem ((c.tc : Thread nD τ).loc main_v3) = encoding (positions m c) (weights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h := θ_run_and (run_main m ρ) (unchanged m ρ)
  exact (θ_run defs _ _).mono (fun _ h c =>
    ⟨(h.1 c |>.2 main_v3 (Pipeline.mem_restRefs_of main_v3 (by decide) (by decide))).trans (transposed m c), h.2 c⟩) h

end

end Cert.KernelIdeal.Result

end
-- ==== Proof.Table.lean ====
module

public import proofs.«01_k».proof.Proof.Gen.Pre_table_of_paths
public import proofs.«01_k».proof.Proof.Branch
public import Idealize.ShloMosaic.Lib.IdealHost

/-!
# What the precondition says of the arguments

The precondition asks that every position is above the least int32 and at most the number of nodes, and that the table of paths is
the one a loop of ten steps up the tree writes. This module says in closed form what that table holds (`table_apply`),
and what the precondition gives of the arguments (`position_of_pre`, `paths_of_pre`).
-/

@[expose] public section

set_option maxRecDepth 16384

namespace Cert.Pre_table_of_paths.Decode

open Idealize.ShloMosaic Idealize.ShloMosaic.WordCmp Cert.Pre_table_of_paths Cert.PathEncoding

noncomputable section

/-- The array the loop carries: at node `n`, after `t` steps, the word of its ancestor `t` levels up. -/
def node (t : ℕ) : IVec S1048576x20 32 :=
  match t with
  | 0 => iotaInDim S1048576x20 32 0
  | t + 1 => select (cmpi .sge (node t) (constantI S1048576x20 32 1#32))
      (Host.divsi (subi (node t) (constantI S1048576x20 32 1#32)) (constantI S1048576x20 32 2#32))
      (constantI S1048576x20 32 0#32)

/-- The table after `t` steps: each step sets the word of its level and branch where the node is not yet the root. -/
def table (t : ℕ) : FVec Ideal S1048576x20 .f32 :=
  match t with
  | 0 => constant S1048576x20 .f32 0x00000000#32
  | t + 1 => select
      (andi (cmpi .sge (node t) (constantI S1048576x20 32 1#32))
        (cmpi .eq (iotaInDim S1048576x20 32 1)
          (addi (constantI S1048576x20 32 (BitVec.ofNat 32 (2 * t)))
            (Host.remsi (subi (node t) (constantI S1048576x20 32 1#32)) (constantI S1048576x20 32 2#32)))))
      (constant S1048576x20 .f32 0x3F800000#32) (table t)

variable [Facts]

/-- The precondition's third array compares the paths with the table after ten steps. -/
theorem fn_paths (x0 : IVec S1024x50 32) (x1 : FVec Ideal S32 .f32) (x2 : FVec Ideal S1048576x20 .f32) :
    (fn x0 x1 x2).2.2 = cmpf .oeq x2 (table 10) := by
  rfl

/-- The precondition's first array asks that each position is above the least int32. -/
theorem fn_above (x0 : IVec S1024x50 32) (x1 : FVec Ideal S32 .f32) (x2 : FVec Ideal S1048576x20 .f32) :
    (fn x0 x1 x2).1 = fun i => IntOp.cmpi .sgt (x0 i) 2147483648#32 := by
  rfl

/-- The precondition's second array asks that each position is at most the number of nodes. -/
theorem fn_bounded (x0 : IVec S1024x50 32) (x1 : FVec Ideal S32 .f32) (x2 : FVec Ideal S1048576x20 .f32) :
    (fn x0 x1 x2).2.1 = fun i => IntOp.cmpi .sle (x0 i) 1048576#32 := by
  rfl

omit [Facts] in
/-- The carried array in closed form. -/
theorem node_apply (t : ℕ) (n : Fin 1048576) (w : Fin 20) :
    node t (ix2 n w) = BitVec.ofNat 32 (ancestor n.val t) := by
  induction t with
  | zero => rw [ancestor_zero]; rfl
  | succ t ih =>
    have hle := ancestor_le n.val t
    have hn := n.isLt
    show Scalar.select (IntOp.cmpi .sge (node t (ix2 n w)) 1#32)
      (IntOp.divsi .host (IntOp.subi (node t (ix2 n w)) 1#32) 2#32) 0#32 = _
    rw [ih, parent_word _ (by omega), ancestor_succ]

omit [Facts] in
/-- The table after `t` steps in closed form: the words of the first `t` levels that the node's path sets are 1, all
else is 0. -/
theorem table_apply (t : ℕ) (ht : t ≤ 10) (n : Fin 1048576) (w : Fin 20) :
    table t (ix2 n w) = if w.val / 2 < t ∧ Taken n.val w.val then (1 : EReal) else 0 := by
  induction t with
  | zero =>
    rw [if_neg (by omega)]
    exact Ideal.ofBits_zero_f32
  | succ t ih =>
    have hle := ancestor_le n.val t
    have hn := n.isLt
    have hw := w.isLt
    show Scalar.select (IntOp.andi (IntOp.cmpi .sge (node t (ix2 n w)) 1#32)
        (IntOp.cmpi .eq (BitVec.ofNat 32 w.val)
          (IntOp.addi (BitVec.ofNat 32 (2 * t)) (IntOp.remsi .host (IntOp.subi (node t (ix2 n w)) 1#32) 2#32))))
      (Ideal.ofBits FTy.f32 0x3F800000#32) (table t (ix2 n w)) = _
    rw [node_apply, branch_word _ t w.val (by omega) (by omega) hw, select_ofBool, ih (by omega), Ideal.ofBits_one_f32]
    unfold ancestor Taken
    simp only [decide_eq_true_eq]
    by_cases hwt : w.val / 2 = t
    · subst hwt
      split_ifs <;> first | rfl | omega
    · split_ifs <;> first | rfl | omega

variable {x0 : IVec S1024x50 32} {x1 : FVec Ideal S32 .f32} {x2 : FVec Ideal S1048576x20 .f32}

/-- Under the precondition each position stands for a node. -/
theorem position_of_pre (h0 : (fn x0 x1 x2).1 = fun _ => 1#1) (h1 : (fn x0 x1 x2).2.1 = fun _ => 1#1)
    (i : S1024x50.Idx) : ∃ n, Names (x0 i) n := by
  rw [fn_above] at h0
  rw [fn_bounded] at h1
  have g0 := congrFun h0 i
  have g1 := congrFun h1 i
  rw [cmpi_sgt_eq, ofBool_decide_eq_one_iff] at g0
  rw [cmpi_sle_eq, ofBool_decide_eq_one_iff] at g1
  exact names_of_range _ g0 g1

/-- Under the precondition the paths hold 1 where the node's path sets the word and 0 elsewhere. -/
theorem paths_of_pre (h2 : (fn x0 x1 x2).2.2 = fun _ => 1#1) (n : Fin 1048576) (w : Fin 20) :
    x2 (ix2 n w) = if Taken n.val w.val then (1 : EReal) else 0 := by
  rw [fn_paths] at h2
  have g := congrFun h2 (ix2 n w)
  have g' : x2 (ix2 n w) = table 10 (ix2 n w) := (Ideal.cmp_oeq_eq_one _ _).1 g
  have hw := w.isLt
  rw [g', table_apply 10 le_rfl]
  congr 1
  rw [eq_iff_iff]
  constructor
  · exact fun h => h.2
  · exact fun h => ⟨by omega, h⟩

end

end Cert.Pre_table_of_paths.Decode

end
-- ==== Proof.RefValue.lean ====
module

public import proofs.«01_k».proof.Proof.Gen.ReferenceIdeal.Read
public import Idealize.ShloMosaic.Lib.Pointwise
public import Idealize.ShloMosaic.Lib.WordCmp
public import Idealize.ShloMosaic.Lib.Routing.Words
public import proofs.«01_k».proof.Proof.Block
public import proofs.«01_k».proof.Proof.Table

/-!
# The reference, read at an element

The row of the table that a position selects, the table's entry there, the decayed power it is multiplied with, and
their product: the lane of `Block.lean`.
-/

@[expose] public section

set_option maxRecDepth 16384

namespace Cert.ReferenceIdeal.Element

open Idealize.ShloMosaic Cert.PathEncoding Cert.ReferenceIdeal Cert.ReferenceIdeal.Read
open Cert.KernelIdeal.Lane (lane)

noncomputable section

variable [Facts]
variable {x0 : S1024x50.Idx → BitVec 32} {x1 : S32.Idx → EReal} {x2 : S1048576x20.Idx → EReal}

/-- The factor of level `w` for feature `d` is the decayed power with exponent `w % 10`. -/
theorem factor_apply (w : Fin 20) (d : Fin 32) :
    val_main_v24 (F := Ideal) x1 (ix2 w d) = decay (x1 (ix1 d)) (w.val % 10) := by
  pointwise [val_main_v24, val_main_v23, val_main_v22, val_main_v21, val_main_v20, val_main_v19, val_main_v18,
    val_main_v17, val_main_v16, val_main_v15, val_main_v14, val_main_v13, val_main_v12, val_main_v11, val_main_cst_2,
    val_main_v10, val_main_v9, val_main_cst_1, val_main_v8, val_main_v7, val_main_cst, val_main_v6, val_main_v5,
    val_main_v4]
  rw [ofBits_thirtytwo, ofBits_two]
  exact power_eq_decay _ _ (Nat.mod_lt _ (by decide))

/-- The result is the table's entry times the factor. -/
theorem product_apply (b : Fin 1024) (s : Fin 50) (l : Fin 640) :
    val_main_v30 (F := Ideal) x0 x1 x2 (ix3 b s l)
      = val_main_v3 (F := Ideal) x0 x2 (ix3 b s ⟨l.val / 32, by omega⟩)
        * val_main_v24 (F := Ideal) x1 (ix2 ⟨l.val / 32, by omega⟩ ⟨l.val % 32, Nat.mod_lt _ (by decide)⟩) := by
  pointwise [val_main_v30, val_main_v29, val_main_v28, val_main_v27, val_main_v26, val_main_v25]

/-- The gather takes whole rows: the row whose number the index array holds, read signed and clamped. -/
theorem gather_row (idx : IVec S1024x50x1 32) (b : Fin 1024) (s : Fin 50) (w : Fin 20) :
    Host.gather gather_S1048576x20_S1024x50x1_S1024x50x20_2_0_n_n_0_2_120 x2 idx (ix3 b s w)
      = x2 (ix2 ⟨min (idx (ix3 b s 0)).toInt.toNat 1048575, by omega⟩ w) := by
  let g := gather_S1048576x20_S1024x50x1_S1024x50x20_2_0_n_n_0_2_120
  have hb : ∀ a, g.batchCoord (ix3 b s w) a = 0 := fun a =>
    GatherDims.batchCoord_eq_zero _ _ _ (List.not_mem_nil)
  have row : g.start (ix3 b s w) idx 0 = min (idx (ix3 b s 0)).toInt.toNat 1048575 := by
    have hm : (0 : Fin 2) ∈ g.startIndexMap := List.mem_singleton.mpr rfl
    have hsi : g.siIdx (ix3 b s w) ⟨List.idxOf (0 : Fin 2) g.startIndexMap, List.idxOf_lt_length_iff.2 hm⟩
        = ix3 b s 0 := by
      funext k; fin_cases k <;> rfl
    unfold GatherDims.start
    rw [dif_pos hm, hsi]
    rfl
  have col : g.start (ix3 b s w) idx 1 = 0 := by
    unfold GatherDims.start
    rw [dif_neg (by decide)]
  have off : g.offCoord (ix3 b s w) 0 = 0 := GatherDims.offCoord_eq_zero _ _ _
    (fun h => ((GatherDims.mem_sKept _ _).mp h).1 (List.mem_singleton.mpr rfl))
  have off' : g.offCoord (ix3 b s w) 1 = w.val := by rfl
  unfold Host.gather
  refine congrArg x2 (funext fun a => Fin.ext ?_)
  show g.start (ix3 b s w) idx a + g.batchCoord (ix3 b s w) a + g.offCoord (ix3 b s w) a = _
  rw [hb a]
  fin_cases a
  · exact (congrArg₂ (fun x y => x + 0 + y) row off : _ = _ + 0 + 0)
  · exact (congrArg₂ (fun x y => x + 0 + y) col off').trans (by simp)

/-- A position that stands for node `n` selects row `n`. -/
theorem row_number {b : Fin 1024} {s : Fin 50} {n : ℕ} (h : Names (x0 (ix2 b s)) n) :
    val_main_call1_v5 (F := Ideal) x0 (ix3 b s 0) = BitVec.ofNat 32 n := by
  obtain ⟨hn, hm, -⟩ := h
  have hc : Scalar.select (IntOp.cmpi .slt (BitVec.ofNat 32 n) 0#32)
      (IntOp.addi (BitVec.ofNat 32 n) 1048576#32) (BitVec.ofNat 32 n) = BitVec.ofNat 32 n := by
    rw [show (0#32 : BitVec 32) = BitVec.ofNat 32 0 from rfl, WordCmp.cmpi_slt_ofNat (by omega) (by omega),
      WordCmp.select_ofBool]
    simp
  have hm' : IntOp.maxsi (id (constantI S_ 32 0#32) ix0) (IntOp.subi (x0 (ix2 b s)) 1#32) = BitVec.ofNat 32 n := hm
  pointwise [val_main_call1_v5, val_main_call1_v4, val_main_call1_v3, val_main_call1_v2, val_main_call1_c_0,
    val_main_call1_v1, val_main_call1_v0, val_main_call1_c, val_main_v2, val_main_call0_v1, val_main_call0_v0,
    val_main_c_0, val_main_v1, val_main_v0, val_main_c]
  rw [hm']
  exact hc

/-- A row number of the table is in range, so the reference takes the gathered entry and not its fill value. -/
theorem entry_apply {b : Fin 1024} {s : Fin 50} {n : ℕ} (h : Names (x0 (ix2 b s)) n) (w : Fin 20) :
    val_main_v3 (F := Ideal) x0 x2 (ix3 b s w) = x2 (ix2 ⟨n, h.1⟩ w) := by
  have hr := row_number h
  have hn := h.1
  pointwise [val_main_v3, val_main_call1_v15, val_main_call1_cst, val_main_call1_v14, val_main_call1_v13,
    val_main_call1_v12, val_main_call1_c_3, val_main_call1_v11, val_main_call1_v10, val_main_call1_v9,
    val_main_call1_v8, val_main_call1_v7, val_main_call1_v6, val_main_call1_c_2, val_main_call1_c_1]
  have hx : ∀ x : Fin 1, val_main_call1_v5 (F := Ideal) x0 (ix3 b s x) = BitVec.ofNat 32 n := fun x => by
    rw [Subsingleton.elim x 0]
    exact hr
  have hge : IntOp.cmpi .sge (BitVec.ofNat 32 n) 0#32 = 1#1 := by
    rw [show (0#32 : BitVec 32) = BitVec.ofNat 32 0 from rfl, WordCmp.cmpi_sge_ofNat (by omega) (by omega)]
    simp
  have hle : IntOp.cmpi .sle (BitVec.ofNat 32 n) 1048575#32 = 1#1 := by
    rw [show (1048575#32 : BitVec 32) = BitVec.ofNat 32 1048575 from rfl,
      WordCmp.cmpi_sle_ofNat (by omega) (by omega), decide_eq_true (by omega)]
    rfl
  have hnum : (BitVec.ofNat 32 n).toInt.toNat = n := by
    rw [BitVec.toInt_eq_toNat_of_lt (by rw [BitVec.toNat_ofNat]; omega), BitVec.toNat_ofNat]
    omega
  simp only [hx, hge, hle, Finset.univ_unique, Finset.fold_singleton]
  rw [gather_row]
  simp only [hr, hnum]
  show x2 _ = _
  congr 2
  exact Fin.ext (by show min n 1048575 = n; omega)

/-- The reference's result under the precondition's two conditions: the lane of its position and weight. -/
theorem result_apply (hpos : ∀ i, ∃ n, Names (x0 i) n)
    (hpath : ∀ n w, x2 (ix2 n w) = if Taken n.val w.val then (1 : EReal) else 0)
    (b : Fin 1024) (s : Fin 50) (l : Fin 640) :
    val_main_v30 (F := Ideal) x0 x1 x2 (ix3 b s l)
      = lane (x0 (ix2 b s)) (x1 (ix1 ⟨l.val % 32, Nat.mod_lt _ (by decide)⟩)) l.val := by
  obtain ⟨n, h⟩ := hpos (ix2 b s)
  rw [product_apply, entry_apply h, factor_apply, hpath]
  unfold lane
  rw [mark_eq h _ (by omega), WordCmp.select_ofBool]
  by_cases ht : Taken n (l.val / 32)
  · simp [ht]
  · simp [ht]

end

end Cert.ReferenceIdeal.Element

end
-- ==== Proof.Equation.lean ====
module

public import proofs.«01_k».proof.Defs
public import proofs.«01_k».proof.Proof.Gen.KernelIdeal
public import proofs.«01_k».proof.Proof.Gen.ReferenceIdeal
public import proofs.«01_k».proof.Proof.Gen.Pre_table_of_paths
public import proofs.«01_k».proof.Proof.Gen.ReferenceIdeal.Run
public import Idealize.ShloMosaic.Lib.Quiescent
public import proofs.«01_k».proof.Proof.KernelValue
public import proofs.«01_k».proof.Proof.RefValue

/-!
# Kernel and reference compute the same array

Where the precondition holds, the reference's result is the array that the kernel's run leaves.
-/

@[expose] public section

noncomputable section

namespace Cert.PathEncoding

open Idealize.ShloMosaic Idealize.SL.Sem
open Cert.KernelIdeal.Result (encoding positions weights)

/-- The reference's run ends with its arguments unchanged and every semaphore counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- The reference's result, as a whole array, is `encoding` of its positions and weights, when the positions are
nodes of the tree and the table holds the paths. -/
theorem reference_eq_encoding {x0 : Cert.ReferenceIdeal.S1024x50.Idx → BitVec 32}
    {x1 : Cert.ReferenceIdeal.S32.Idx → EReal} {x2 : Cert.ReferenceIdeal.S1048576x20.Idx → EReal}
    (h0 : (Cert.Pre_table_of_paths.fn (F := Ideal) x0 x1 x2).1 = fun _ => 1#1)
    (h1 : (Cert.Pre_table_of_paths.fn (F := Ideal) x0 x1 x2).2.1 = fun _ => 1#1)
    (h2 : (Cert.Pre_table_of_paths.fn (F := Ideal) x0 x1 x2).2.2 = fun _ => 1#1) :
    Cert.ReferenceIdeal.Read.val_main_v30 (F := Ideal) x0 x1 x2 = encoding x0 x1 := by
  funext i
  obtain ⟨b, s, l, rfl⟩ : ∃ (b : Fin 1024) (s : Fin 50) (l : Fin 640), i = ix3 b s l :=
    ⟨i 0, i 1, i 2, eq_ix3 i⟩
  exact Cert.ReferenceIdeal.Element.result_apply (Cert.Pre_table_of_paths.Decode.position_of_pre h0 h1)
    (Cert.Pre_table_of_paths.Decode.paths_of_pre h2) b s l

/-- The two programs, run on the same arguments, end with the same result. -/
theorem equation : Cert.algebraic_KernelIdeal_ReferenceIdeal_pre_table_of_paths := by
  intro m g m' g' hpre hagree
  refine ⟨fun c => encoding (positions m c) (weights m c), Cert.KernelIdeal.Result.run m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v30_eq, (hagree c).1, (hagree c).2.1, (hagree c).2.2]
  exact reference_eq_encoding (hpre c).1 (hpre c).2.1 (hpre c).2.2

end Cert.PathEncoding

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_table_of_paths
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Equation

@[expose] public section

noncomputable section

namespace Cert.Proof

open Idealize.ShloMosaic Idealize.SL.Sem Cert.Kernel

/-- The claims: the programs run to the end, fault nowhere, keep their arguments and leave every semaphore counter at
zero; the idealized kernel keeps the kernel's operations; kernel and reference end with the same result. -/
theorem claim : Cert.Claim :=
  ⟨Cert.Kernel.Gen.facts, Cert.KernelIdeal.Gen.facts, Cert.ReferenceIdeal.Gen.facts, Cert.Pre_table_of_paths.Gen.facts,
    fun m g _ => Cert.Kernel.Gen.frame m g,
    fun m g _ => Cert.KernelIdeal.Gen.frame m g,
    fun m g _ => Cert.KernelIdeal.Gen.frame m g,
    fun m g _ => Cert.PathEncoding.reference_frame m g,
    fun m g _ => Cert.PathEncoding.reference_frame m g,
    trivial,
    Cert.PathEncoding.equation⟩

end Cert.Proof

end
